-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_contiguous_segments [hPre_contiguous_segments : Cert.Pre_contiguous_segments.Facts] (m : (ℓ : Loc Cert.KernelIdeal.nD Cert.KernelIdeal.τ Cert.KernelIdeal.sig) → Buf (Elt Ideal) ℓ) : Prop :=
  ∀ c : Dev Cert.KernelIdeal.nD,
    (Cert.Pre_contiguous_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_contiguous_segments [hPre_contiguous_segments : Cert.Pre_contiguous_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_contiguous_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_contiguous_segments [hKernelIdeal : Cert.KernelIdeal.Facts] [hPre_contiguous_segments : Cert.Pre_contiguous_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_contiguous_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_contiguous_segments [hReferenceIdeal : Cert.ReferenceIdeal.Facts] [hPre_contiguous_segments : Cert.Pre_contiguous_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_contiguous_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_contiguous_segments [hKernelIdeal : Cert.KernelIdeal.Facts] [hReferenceIdeal : Cert.ReferenceIdeal.Facts] [hPre_contiguous_segments : Cert.Pre_contiguous_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_contiguous_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_contiguous_segments : Cert.Pre_contiguous_segments.Facts),
    quiescent_Kernel (hKernel := hKernel)
    ∧ quiescent_KernelIdeal (hKernelIdeal := hKernelIdeal)
    ∧ quiescent_KernelIdeal_pre_contiguous_segments (hKernelIdeal := hKernelIdeal) (hPre_contiguous_segments := hPre_contiguous_segments)
    ∧ quiescent_ReferenceIdeal (hReferenceIdeal := hReferenceIdeal)
    ∧ quiescent_ReferenceIdeal_pre_contiguous_segments (hReferenceIdeal := hReferenceIdeal) (hPre_contiguous_segments := hPre_contiguous_segments)
    ∧ preserves_Kernel_KernelIdeal
    ∧ algebraic_KernelIdeal_ReferenceIdeal_pre_contiguous_segments (hKernelIdeal := hKernelIdeal) (hReferenceIdeal := hReferenceIdeal) (hPre_contiguous_segments := hPre_contiguous_segments)
-- ==== Pre_contiguous_segments.lean ====
abbrev S16x4096x1 : Shape := ⟨3, ![16, 4096, 1]⟩
abbrev S16x4096 : Shape := ⟨2, ![16, 4096]⟩
abbrev S512x16 : Shape := ⟨2, ![512, 16]⟩
abbrev S_ : Shape := ⟨0, ![]⟩

class Facts : Prop where
  bcast_S_S16x4096 : S_.BroadcastsInDim S16x4096 (![] : Fin 0 → Fin S16x4096.rank)

variable [Facts]

def fn {F : FTy → Type} [FloatOps F] (main_arg0 : FVec F S16x4096x1 .f32) (main_arg1 : IVec S16x4096 32) (main_arg2 : FVec F S512x16 .f32) : IVec S16x4096 1 :=
  let main_v0 : IVec S16x4096 32 := iotaInDim S16x4096 32 1
  let main_c : IVec S_ 32 := constantI S_ 32 16#32
  let main_v1 : IVec S16x4096 32 := broadcastInDim S16x4096 ![] bcast_S_S16x4096 main_c
  let main_v2 : IVec S16x4096 32 := Host.divsi main_v0 main_v1
  let main_v3 : IVec S16x4096 1 := cmpi .eq main_arg1 main_v2
  main_v3
-- ==== Kernel.lean ====
abbrev S16x4096x1 : Shape := ⟨3, ![16, 4096, 1]⟩
abbrev S16x4096 : Shape := ⟨2, ![16, 4096]⟩
abbrev S512x16 : Shape := ⟨2, ![512, 16]⟩
abbrev S4096x16 : Shape := ⟨2, ![4096, 16]⟩
abbrev S16x512 : Shape := ⟨2, ![16, 512]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S256x256x1 : Shape := ⟨3, ![256, 256, 1]⟩
abbrev S256x256x2 : Shape := ⟨3, ![256, 256, 2]⟩
abbrev S256x512 : Shape := ⟨2, ![256, 512]⟩
abbrev S4096x512 : Shape := ⟨2, ![4096, 512]⟩
abbrev S16x2048 : Shape := ⟨2, ![16, 2048]⟩
abbrev S2048x512 : Shape := ⟨2, ![2048, 512]⟩
abbrev S8x256x512 : Shape := ⟨3, ![8, 256, 512]⟩
abbrev S1x256x512 : Shape := ⟨3, ![1, 256, 512]⟩
abbrev S16x256x512 : Shape := ⟨3, ![16, 256, 512]⟩

abbrev nBuf : Space → Nat
  | .hbm => 39
  | .vmem => 6
  | .smem => 0
  | _ => 0

abbrev bufTy : (tb : Table) → Fin (tcTables nBuf tb) → BufTy
  | .hbm, ⟨0, _⟩ => ⟨S16x4096x1, .f32⟩
  | .hbm, ⟨1, _⟩ => ⟨S16x4096, .i32⟩
  | .hbm, ⟨2, _⟩ => ⟨S512x16, .f32⟩
  | .hbm, ⟨3, _⟩ => ⟨S16x4096, .f32⟩
  | .hbm, ⟨4, _⟩ => ⟨S4096x16, .f32⟩
  | .hbm, ⟨5, _⟩ => ⟨S16x4096, .f32⟩
  | .hbm, ⟨6, _⟩ => ⟨S16x512, .f32⟩
  | .hbm, ⟨7, _⟩ => ⟨S256, .f32⟩
  | .hbm, ⟨8, _⟩ => ⟨S256x1, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S1x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S1x256, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256x1, .f32⟩
  | .hbm, ⟨31, _⟩ => ⟨S256x256x1, .f32⟩
  | .hbm, ⟨32, _⟩ => ⟨S256x256x2, .f32⟩
  | .hbm, ⟨33, _⟩ => ⟨S256x512, .f32⟩
  | .hbm, ⟨34, _⟩ => ⟨S256x512, .bf16⟩
  | .hbm, ⟨35, _⟩ => ⟨S4096x512, .f32⟩
  | .hbm, ⟨36, _⟩ => ⟨S16x256x512, .f32⟩
  | .hbm, ⟨37, _⟩ => ⟨S_, .i1⟩
  | .hbm, ⟨38, _⟩ => ⟨S4096x16, .i1⟩
  | .local _ .vmem, ⟨0, _⟩ => ⟨S16x2048, .f32⟩
  | .local _ .vmem, ⟨1, _⟩ => ⟨S16x2048, .f32⟩
  | .local _ .vmem, ⟨2, _⟩ => ⟨S16x512, .f32⟩
  | .local _ .vmem, ⟨3, _⟩ => ⟨S256x512, .bf16⟩
  | .local _ .vmem, ⟨4, _⟩ => ⟨S2048x512, .f32⟩
  | .local _ .vmem, ⟨5, _⟩ => ⟨S2048x512, .f32⟩
  | _, _ => ⟨S16x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x4096x1 : Shape := ⟨3, ![16, 4096, 1]⟩
abbrev S16x4096 : Shape := ⟨2, ![16, 4096]⟩
abbrev S512x16 : Shape := ⟨2, ![512, 16]⟩
abbrev S_ : Shape := ⟨0, ![]⟩
abbrev S4096 : Shape := ⟨1, ![4096]⟩
abbrev S1x4096 : Shape := ⟨2, ![1, 4096]⟩
abbrev S16 : Shape := ⟨1, ![16]⟩
abbrev S16x1 : Shape := ⟨2, ![16, 1]⟩
abbrev S16x256x16 : Shape := ⟨3, ![16, 256, 16]⟩
abbrev S16x4096x3 : Shape := ⟨3, ![16, 4096, 3]⟩
abbrev S16x256x512 : Shape := ⟨3, ![16, 256, 512]⟩
abbrev S5000 : Shape := ⟨1, ![5000]⟩
abbrev S5000x1 : Shape := ⟨2, ![5000, 1]⟩
abbrev S256 : Shape := ⟨1, ![256]⟩
abbrev S5000x512 : Shape := ⟨2, ![5000, 512]⟩
abbrev S1x256 : Shape := ⟨2, ![1, 256]⟩
abbrev S5000x256 : Shape := ⟨2, ![5000, 256]⟩
abbrev S256x1 : Shape := ⟨2, ![256, 1]⟩
abbrev S256x512 : Shape := ⟨2, ![256, 512]⟩
abbrev S1x256x512 : Shape := ⟨3, ![1, 256, 512]⟩
abbrev S4096x16 : Shape := ⟨2, ![4096, 16]⟩

abbrev nBuf : Space → Nat
  | .hbm => 106
  | .vmem => 0
  | .smem => 0
  | _ => 0

abbrev bufTy : (tb : Table) → Fin (tcTables nBuf tb) → BufTy
  | .hbm, ⟨0, _⟩ => ⟨S16x4096x1, .f32⟩
  | .hbm, ⟨1, _⟩ => ⟨S16x4096, .i32⟩
  | .hbm, ⟨2, _⟩ => ⟨S512x16, .f32⟩
  | .hbm, ⟨3, _⟩ => ⟨S16x4096, .f32⟩
  | .hbm, ⟨4, _⟩ => ⟨S_, .i32⟩
  | .hbm, ⟨5, _⟩ => ⟨S16x4096, .i32⟩
  | .hbm, ⟨6, _⟩ => ⟨S16x4096, .i32⟩
  | .hbm, ⟨7, _⟩ => ⟨S4096, .i32⟩
  | .hbm, ⟨8, _⟩ => ⟨S1x4096, .i32⟩
  | .hbm, ⟨9, _⟩ => ⟨S16x4096, .i32⟩
  | .hbm, ⟨10, _⟩ => ⟨S16x4096, .i32⟩
  | .hbm, ⟨11, _⟩ => ⟨S16, .i32⟩
  | .hbm, ⟨12, _⟩ => ⟨S16x1, .i32⟩
  | .hbm, ⟨13, _⟩ => ⟨S_, .f32⟩
  | .hbm, ⟨14, _⟩ => ⟨S16x256x16, .f32⟩
  | .hbm, ⟨15, _⟩ => ⟨S_, .i32⟩
  | .hbm, ⟨16, _⟩ => ⟨S16x1, .i32⟩
  | .hbm, ⟨17, _⟩ => ⟨S16x1, .i1⟩
  | .hbm, ⟨18, _⟩ => ⟨S_, .i32⟩
  | .hbm, ⟨19, _⟩ => ⟨S16x1, .i32⟩
  | .hbm, ⟨20, _⟩ => ⟨S16x1, .i32⟩
  | .hbm, ⟨21, _⟩ => ⟨S16x1, .i32⟩
  | .hbm, ⟨22, _⟩ => ⟨S_, .i32⟩
  | .hbm, ⟨23, _⟩ => ⟨S16x4096, .i32⟩
  | .hbm, ⟨24, _⟩ => ⟨S16x4096, .i1⟩
  | .hbm, ⟨25, _⟩ => ⟨S_, .i32⟩
  | .hbm, ⟨26, _⟩ => ⟨S16x4096, .i32⟩
  | .hbm, ⟨27, _⟩ => ⟨S16x4096, .i32⟩
  | .hbm, ⟨28, _⟩ => ⟨S16x4096, .i32⟩
  | .hbm, ⟨29, _⟩ => ⟨S_, .i32⟩
  | .hbm, ⟨30, _⟩ => ⟨S16x4096, .i32⟩
  | .hbm, ⟨31, _⟩ => ⟨S16x4096, .i1⟩
  | .hbm, ⟨32, _⟩ => ⟨S_, .i32⟩
  | .hbm, ⟨33, _⟩ => ⟨S16x4096, .i32⟩
  | .hbm, ⟨34, _⟩ => ⟨S16x4096, .i32⟩
  | .hbm, ⟨35, _⟩ => ⟨S16x4096, .i32⟩
  | .hbm, ⟨36, _⟩ => ⟨S16x4096, .i32⟩
  | .hbm, ⟨37, _⟩ => ⟨S16x4096x1, .i32⟩
  | .hbm, ⟨38, _⟩ => ⟨S16x4096x1, .i32⟩
  | .hbm, ⟨39, _⟩ => ⟨S16x4096x1, .i32⟩
  | .hbm, ⟨40, _⟩ => ⟨S16x4096x3, .i32⟩
  | .hbm, ⟨41, _⟩ => ⟨S16x256x16, .f32⟩
  | .hbm, ⟨42, _⟩ => ⟨S16x256x512, .f32⟩
  | .hbm, ⟨43, _⟩ => ⟨S5000, .f32⟩
  | .hbm, ⟨44, _⟩ => ⟨S5000x1, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S5000x512, .f32⟩
  | .hbm, ⟨58, _⟩ => ⟨S256, .i32⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i32⟩
  | .hbm, ⟨65, _⟩ => ⟨S1x256, .f32⟩
  | .hbm, ⟨66, _⟩ => ⟨S5000x256, .f32⟩
  | .hbm, ⟨67, _⟩ => ⟨S5000x256, .f32⟩
  | .hbm, ⟨68, _⟩ => ⟨S5000x256, .f32⟩
  | .hbm, ⟨69, _⟩ => ⟨S5000x256, .f32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S_, .i32⟩
  | .hbm, ⟨74, _⟩ => ⟨S256, .i32⟩
  | .hbm, ⟨75, _⟩ => ⟨S256, .i32⟩
  | .hbm, ⟨76, _⟩ => ⟨S256, .i32⟩
  | .hbm, ⟨77, _⟩ => ⟨S256x1, .i32⟩
  | .hbm, ⟨78, _⟩ => ⟨S5000x512, .f32⟩
  | .hbm, ⟨79, _⟩ => ⟨S256, .i32⟩
  | .hbm, ⟨80, _⟩ => ⟨S_, .i32⟩
  | .hbm, ⟨81, _⟩ => ⟨S256, .i32⟩
  | .hbm, ⟨82, _⟩ => ⟨S256, .i32⟩
  | .hbm, ⟨83, _⟩ => ⟨S_, .i32⟩
  | .hbm, ⟨84, _⟩ => ⟨S256, .i32⟩
  | .hbm, ⟨85, _⟩ => ⟨S256, .i32⟩
  | .hbm, ⟨86, _⟩ => ⟨S1x256, .f32⟩
  | .hbm, ⟨87, _⟩ => ⟨S5000x256, .f32⟩
  | .hbm, ⟨88, _⟩ => ⟨S5000x256, .f32⟩
  | .hbm, ⟨89, _⟩ => ⟨S5000x256, .f32⟩
  | .hbm, ⟨90, _⟩ => ⟨S5000x256, .f32⟩
  | .hbm, ⟨91, _⟩ => ⟨S_, .i32⟩
  | .hbm, ⟨92, _⟩ => ⟨S256, .i32⟩
  | .hbm, ⟨93, _⟩ => ⟨S256, .i1⟩
  | .hbm, ⟨94, _⟩ => ⟨S_, .i32⟩
  | .hbm, ⟨95, _⟩ => ⟨S256, .i32⟩
  | .hbm, ⟨96, _⟩ => ⟨S256, .i32⟩
  | .hbm, ⟨97, _⟩ => ⟨S256, .i32⟩
  | .hbm, ⟨98, _⟩ => ⟨S256x1, .i32⟩
  | .hbm, ⟨99, _⟩ => ⟨S5000x512, .f32⟩
  | .hbm, ⟨100, _⟩ => ⟨S256x512, .f32⟩
  | .hbm, ⟨101, _⟩ => ⟨S1x256x512, .f32⟩
  | .hbm, ⟨102, _⟩ => ⟨S16x256x512, .f32⟩
  | .hbm, ⟨103, _⟩ => ⟨S16x256x512, .f32⟩
  | .hbm, ⟨104, _⟩ => ⟨S_, .i1⟩
  | .hbm, ⟨105, _⟩ => ⟨S4096x16, .i1⟩
  | _, _ => ⟨S16x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_c_10 : Ref sig .tc := ⟨.hbm, 59, rfl⟩
abbrev main_v44 : Ref sig .tc := ⟨.hbm, 60, rfl⟩
abbrev main_v45 : Ref sig .tc := ⟨.hbm, 61, rfl⟩
abbrev main_c_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_12 : Ref sig .tc := ⟨.hbm, 70, rfl⟩
abbrev main_v53 : Ref sig .tc := ⟨.hbm, 71, rfl⟩
abbrev main_v54 : Ref sig .tc := ⟨.hbm, 72, rfl⟩
abbrev main_c_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_14 : Ref sig .tc := ⟨.hbm, 80, rfl⟩
abbrev main_v61 : Ref sig .tc := ⟨.hbm, 81, rfl⟩
abbrev main_v62 : Ref sig .tc := ⟨.hbm, 82, rfl⟩
abbrev main_c_15 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_16 : Ref sig .tc := ⟨.hbm, 91, rfl⟩
abbrev main_v70 : Ref sig .tc := ⟨.hbm, 92, rfl⟩
abbrev main_v71 : Ref sig .tc := ⟨.hbm, 93, rfl⟩
abbrev main_c_17 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_18 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== Proof.Patches.lean ====
/- The reference's scatter of the samples into patches, read at an index, when the segment ids are the contiguous ones. -/
module

public import proofs.«01_k».proof.Proof.Gen.ReferenceIdeal.Read
public import Idealize.ShloMosaic.Lib.Routing.OpsSet
public import Idealize.ShloMosaic.Lib.Routing.Words

@[expose] public section

noncomputable section

namespace Cert.Patches

open Cert.ReferenceIdeal Cert.ReferenceIdeal.Gen Cert.ReferenceIdeal.Read
open Idealize.ShloMosaic Idealize.ShloMosaic.ValueIdx

variable {F : FTy → Type} [FloatOps F]

/-- Sample `n` of every row has segment id `n / 16`. -/
def Contiguous (ids : IVec S16x4096 32) : Prop := ∀ (b : Fin 16) (n : Fin 4096), ids (ix2 b n) = BitVec.ofNat 32 (n.val / 16)

/-- The offset of sample `n` inside its segment, `n - 16 * (n / 16)` on 32-bit words, is the word of `n % 16`. -/
theorem offset_word (n : ℕ) (h : n < 4096) : BitVec.ofNat 32 n - BitVec.ofNat 32 (n / 16) * 16#32 = BitVec.ofNat 32 (n % 16) := by
  apply BitVec.eq_of_toNat_eq
  simp only [BitVec.toNat_sub, BitVec.toNat_mul, BitVec.toNat_ofNat]
  omega

/-- A word of a number below `2 ^ 31` passes the wrap of negative indices unchanged. -/
theorem wrap_ofNat (n : ℕ) (a : BitVec 32) (h : n < 2 ^ 31) : Scalar.select (IntOp.cmpi .slt (BitVec.ofNat 32 n) 0#32) a (BitVec.ofNat 32 n) = BitVec.ofNat 32 n :=
  Routing.wrap_of_lt _ _ (by rw [WordCmp.toNat_ofNat_of_lt (by omega)]; exact h)

/-- The first index word of sample `(b, n)`: the row `b`. -/
theorem row_word (b : Fin 16) (n : Fin 4096) : val_main_v26 (F := F) (ix3 b n 0) = BitVec.ofNat 32 b.val := by
  rw [val_main_v26_apply, val_main_v25_apply, val_main_v14_apply, val_main_v11_apply, val_main_v10_apply, val_main_c_0_apply, val_main_v8_apply, val_main_v7_apply]
  exact wrap_ofNat b.val _ (by have := b.isLt; omega)

/-- The second index word of sample `(b, n)`: the segment `n / 16`. -/
theorem segment_word (ids : IVec S16x4096 32) (h : Contiguous ids) (b : Fin 16) (n : Fin 4096) :
    val_main_v27 (F := F) ids (ix3 b n 0) = BitVec.ofNat 32 (n.val / 16) := by
  have e : idx_main_v27 (ix3 b n 0) = ix2 b n := eq_ix2 _
  rw [val_main_v27_apply, e, val_main_v19_apply, val_main_v16_apply, val_main_v15_apply, val_main_c_2_apply, h b n]
  exact wrap_ofNat _ _ (by have := n.isLt; omega)

/-- The third index word of sample `(b, n)`: the offset `n % 16`. -/
theorem offset_read (ids : IVec S16x4096 32) (h : Contiguous ids) (b : Fin 16) (n : Fin 4096) :
    val_main_v28 (F := F) ids (ix3 b n 0) = BitVec.ofNat 32 (n.val % 16) := by
  have e : idx_main_v28 (ix3 b n 0) = ix2 b n := eq_ix2 _
  have o : val_main_v6 (F := F) ids (ix2 b n) = BitVec.ofNat 32 (n.val % 16) := by
    rw [val_main_v6_apply, val_main_v5_apply, val_main_v4_apply, val_main_v3_apply, val_main_v2_apply, val_main_v1_apply, val_main_c_apply, h b n]
    exact offset_word n.val n.isLt
  rw [val_main_v28_apply, e, val_main_v24_apply, val_main_v21_apply, val_main_v20_apply, val_main_c_4_apply, o]
  exact wrap_ofNat _ _ (by have := n.isLt; omega)

/-- The three index words of sample `(b, n)`, side by side. -/
theorem index_words (ids : IVec S16x4096 32) (h : Contiguous ids) (b : Fin 16) (n : Fin 4096) :
    val_main_v29 (F := F) ids (ix3 b n 0) = BitVec.ofNat 32 b.val
      ∧ val_main_v29 (F := F) ids (ix3 b n 1) = BitVec.ofNat 32 (n.val / 16)
      ∧ val_main_v29 (F := F) ids (ix3 b n 2) = BitVec.ofNat 32 (n.val % 16) := by
  let xs : List ((s : Shape) × (s.Idx → BitVec 32)) :=
    [⟨S16x4096x1, val_main_v26 (F := F)⟩, ⟨S16x4096x1, val_main_v27 (F := F) ids⟩, ⟨S16x4096x1, val_main_v28 (F := F) ids⟩]
  have piece : ∀ (x : IVec S16x4096x1 32) (k : Fin 3), xs[k.val]'k.isLt = ⟨S16x4096x1, x⟩ → val_main_v29 (F := F) ids (ix3 b n k) = x (ix3 b n 0) := fun x k hx =>
    concatenate_apply_piece (t := S16x4096x3) 2 xs concatenates_S16x4096x1_S16x4096x1_S16x4096x1_S16x4096x3_d2 (ix3 b n k) k.val k.isLt S16x4096x1 x hx rfl k.val
      (by fin_cases k <;> rfl) (ix3 b n 0)
      (fun a ha => match a with
        | ⟨0, _⟩ => rfl
        | ⟨1, _⟩ => rfl
        | ⟨2, _⟩ => (ha rfl).elim) rfl
  exact ⟨(piece _ 0 rfl).trans (row_word b n), (piece _ 1 rfl).trans (segment_word ids h b n), (piece _ 2 rfl).trans (offset_read ids h b n)⟩

/-- The scatter by three index words: update `(b, n)` lands at `(r, p, l)` exactly when its words, read signed, are `r`, `p` and `l`. -/
theorem lands (idx : IVec S16x4096x3 32) (b : Fin 16) (n : Fin 4096) (r : Fin 16) (p : Fin 256) (l : Fin 16) :
    scatter_S16x256x16_S16x4096x3_S16x4096_n_012_012_2.resultIdx? (ix2 b n) idx = some (ix3 r p l)
      ↔ (idx (ix3 b n 0)).toInt = r.val ∧ (idx (ix3 b n 1)).toInt = p.val ∧ (idx (ix3 b n 2)).toInt = l.val := by
  have st : ∀ q : Fin 3, scatter_S16x256x16_S16x4096x3_S16x4096_n_012_012_2.start (ix2 b n) idx q
      + (scatter_S16x256x16_S16x4096x3_S16x4096_n_012_012_2.window (ix2 b n) q : Int) = (idx (ix3 b n q)).toInt := fun q => by
    have hi : ∀ c : Fin 3, scatter_S16x256x16_S16x4096x3_S16x4096_n_012_012_2.siIdx (ix2 b n) c = ix3 b n c := fun c =>
      funext fun a => match a with
        | ⟨0, _⟩ => rfl
        | ⟨1, _⟩ => rfl
        | ⟨2, _⟩ => rfl
    fin_cases q
    · show (idx (scatter_S16x256x16_S16x4096x3_S16x4096_n_012_012_2.siIdx (ix2 b n) (0 : Fin 3))).toInt + 0 = _
      rw [hi, Int.add_zero]; rfl
    · show (idx (scatter_S16x256x16_S16x4096x3_S16x4096_n_012_012_2.siIdx (ix2 b n) (1 : Fin 3))).toInt + 0 = _
      rw [hi, Int.add_zero]; rfl
    · show (idx (scatter_S16x256x16_S16x4096x3_S16x4096_n_012_012_2.siIdx (ix2 b n) (2 : Fin 3))).toInt + 0 = _
      rw [hi, Int.add_zero]; rfl
  rw [Routing.resultIdx?_eq_some]
  constructor
  · intro h
    exact ⟨(st 0).symm.trans (h 0), (st 1).symm.trans (h 1), (st 2).symm.trans (h 2)⟩
  · rintro ⟨h0, h1, h2⟩ a
    match a with
    | ⟨0, _⟩ => exact (st 0).trans h0
    | ⟨1, _⟩ => exact (st 1).trans h1
    | ⟨2, _⟩ => exact (st 2).trans h2

/-- Element `(b, p, l)` of the reference's patches is sample `16 * p + l` of row `b`: the one sample whose index words are `b`, `p`, `l`. -/
theorem patches_read (x : FVec F S16x4096x1 .f32) (ids : IVec S16x4096 32) (h : Contiguous ids) (b : Fin 16) (p : Fin 256) (l : Fin 16) :
    val_main_v30 (F := F) x ids (ix3 b p l) = x (ix3 b ⟨16 * p.val + l.val, by omega⟩ 0) := by
  have hl : ∀ (b' : Fin 16) (n : Fin 4096), scatter_S16x256x16_S16x4096x3_S16x4096_n_012_012_2.resultIdx? (ix2 b' n) (val_main_v29 (F := F) ids) = some (ix3 b p l)
      ↔ b'.val = b.val ∧ n.val = 16 * p.val + l.val := fun b' n => by
    obtain ⟨e0, e1, e2⟩ := index_words (F := F) ids h b' n
    rw [lands, e0, e1, e2, WordCmp.toInt_ofNat_of_lt (by omega), WordCmp.toInt_ofNat_of_lt (by omega), WordCmp.toInt_ofNat_of_lt (by omega)]
    omega
  have hread : ∀ (b' : Fin 16) (n : Fin 4096), val_main_v0 (F := F) x (ix2 b' n) = x (ix3 b' n 0) := fun b' n => by
    rw [val_main_v0_apply]
    refine congrArg x (funext fun a => Fin.ext ?_)
    match a with
    | ⟨0, _⟩ => show (b'.val * 4096 + n.val) / 4096 = b'.val; omega
    | ⟨1, _⟩ => show (b'.val * 4096 + n.val) / 1 % 4096 = n.val; omega
    | ⟨2, _⟩ => rfl
  unfold val_main_v30
  refine Routing.scatter_set_hit _ _ _ _ _ _ (fun k hk => ?_) (ix2 b ⟨16 * p.val + l.val, by omega⟩) ((hl _ _).2 ⟨rfl, rfl⟩)
  obtain ⟨b', n, rfl⟩ : ∃ b' n, k = ix2 b' n := ⟨_, _, eq_ix2 k⟩
  obtain ⟨hb, hn⟩ := (hl b' n).1 hk
  obtain rfl : b' = b := Fin.ext hb
  have hn' : n = ⟨16 * p.val + l.val, by omega⟩ := Fin.ext hn
  rw [hn']
  exact hread _ _

end Cert.Patches

end
-- ==== Proof.RefTable.lean ====
/- The table of sines and cosines: its entries as scalars, and the reference's table, written column set by column set, read at an index. -/
module

public import proofs.«01_k».proof.Proof.Patches

@[expose] public section

noncomputable section

namespace Cert.Table

open Cert.ReferenceIdeal Cert.ReferenceIdeal.Gen Cert.ReferenceIdeal.Read
open Idealize.ShloMosaic Idealize.ShloMosaic.ValueIdx

variable {F : FTy → Type} [FloatOps F]

/-- The frequency of column pair `k`: the exponential of `(0 + 2 * k)` times the scale `-ln 10000 / 512`. -/
def rate (k : ℕ) : F .f32 :=
  FloatOps.hostUnary .exp (FloatOps.mulf (FloatOps.addf (FloatOps.ofBits .f32 0x00000000#32) (FloatOps.mulf (FloatOps.ofBits .f32 0x40000000#32) (FloatOps.sitofp .f32 (BitVec.ofNat 32 k))))
    (FloatOps.ofBits .f32 0xBC935D8E#32))

/-- The angle of row `p` in column pair `k`: `p` times the pair's frequency. -/
def angle (p k : ℕ) : F .f32 := FloatOps.mulf (FloatOps.sitofp .f32 (BitVec.ofNat 32 p)) (rate k)

/-- Entry `(p, d)` of the table: the sine of the angle in an even column, its cosine in an odd one. -/
def entry (p d : ℕ) : F .f32 := if d % 2 = 0 then FloatOps.hostUnary .sin (angle p (d / 2)) else FloatOps.hostUnary .cos (angle p (d / 2))

/-- The reference's frequencies. -/
theorem ref_rate (k : Fin 256) : val_main_v41 (F := F) (ix1 k) = rate k.val := by
  rw [val_main_v41_apply, val_main_v40_apply, val_main_v38_apply, val_main_v37_apply, val_main_cst_7_apply, val_main_v36_apply, val_main_v35_apply, val_main_cst_6_apply, val_main_v39_apply,
    val_main_cst_8_apply]
  rfl

/-- The reference's sines, for every row and column pair. -/
theorem ref_sin (p : Fin 5000) (k : Fin 256) : val_main_v52 (F := F) (ix2 p k) = FloatOps.hostUnary .sin (angle p.val k.val) := by
  have e : idx_main_v48 (idx_main_v50 (ix2 p k)) = ix1 k := eq_ix1 _
  rw [val_main_v52_apply, val_main_v51_apply, val_main_v49_apply, val_main_v33_apply, val_main_v50_apply, val_main_v48_apply, e, ref_rate]
  rfl

/-- The reference's cosines, for every row and column pair. -/
theorem ref_cos (p : Fin 5000) (k : Fin 256) : val_main_v69 (F := F) (ix2 p k) = FloatOps.hostUnary .cos (angle p.val k.val) := by
  have e : idx_main_v65 (idx_main_v67 (ix2 p k)) = ix1 k := eq_ix1 _
  rw [val_main_v69_apply, val_main_v68_apply, val_main_v66_apply, val_main_v33_apply, val_main_v67_apply, val_main_v65_apply, e, ref_rate]
  rfl

/-- The column word of the sines of pair `k` is `2 * k`. -/
theorem even_word (k : Fin 256) : val_main_v58 (F := F) (ix2 k 0) = BitVec.ofNat 32 (2 * k.val) := by
  have w : val_main_v47 (F := F) (idx_main_v58 (ix2 k 0)) = BitVec.ofNat 32 (2 * k.val) := by
    rw [val_main_v47_apply, val_main_v46_apply, val_main_c_11_apply, val_main_v45_apply, val_main_v44_apply, val_main_c_10_apply, val_main_v43_apply]
    show 0#32 + 2#32 * BitVec.ofNat 32 k.val = _
    rw [BitVec.zero_add, ← BitVec.ofNat_mul]
  rw [val_main_v58_apply, val_main_v57_apply, val_main_v54_apply, val_main_v53_apply, val_main_c_12_apply, w]
  exact Patches.wrap_ofNat _ _ (by omega)

/-- The column word of the cosines of pair `k` is `2 * k + 1`. -/
theorem odd_word (k : Fin 256) : val_main_v75 (F := F) (ix2 k 0) = BitVec.ofNat 32 (2 * k.val + 1) := by
  have w : val_main_v64 (F := F) (idx_main_v75 (ix2 k 0)) = BitVec.ofNat 32 (2 * k.val + 1) := by
    rw [val_main_v64_apply, val_main_v63_apply, val_main_c_15_apply, val_main_v62_apply, val_main_v61_apply, val_main_c_14_apply, val_main_v60_apply]
    show 1#32 + 2#32 * BitVec.ofNat 32 k.val = _
    rw [← BitVec.ofNat_mul, ← BitVec.ofNat_add, Nat.add_comm]
  rw [val_main_v75_apply, val_main_v74_apply, val_main_v71_apply, val_main_v70_apply, val_main_c_16_apply, w]
  exact Patches.wrap_ofNat _ _ (by omega)

/-- The scatter of whole columns: update `(q, k)` lands at `(p, d)` exactly when `q` is `p` and the word of column `k`, read signed, is `d`. -/
theorem lands (idx : IVec S256x1 32) (q : Fin 5000) (k : Fin 256) (p : Fin 5000) (d : Fin 512) :
    scatter_S5000x512_S256x1_S5000x256_0_1_1_1.resultIdx? (ix2 q k) idx = some (ix2 p d) ↔ q.val = p.val ∧ (idx (ix2 k 0)).toInt = d.val := by
  have hi : scatter_S5000x512_S256x1_S5000x256_0_1_1_1.siIdx (ix2 q k) (0 : Fin 1) = ix2 k 0 := funext fun a => match a with
    | ⟨0, _⟩ => rfl
    | ⟨1, _⟩ => rfl
  have h0 : scatter_S5000x512_S256x1_S5000x256_0_1_1_1.start (ix2 q k) idx 0 + (scatter_S5000x512_S256x1_S5000x256_0_1_1_1.window (ix2 q k) 0 : Int) = q.val := by
    show (0 : Int) + (q.val : Int) = q.val
    exact Int.zero_add _
  have h1 : scatter_S5000x512_S256x1_S5000x256_0_1_1_1.start (ix2 q k) idx 1 + (scatter_S5000x512_S256x1_S5000x256_0_1_1_1.window (ix2 q k) 1 : Int) = (idx (ix2 k 0)).toInt := by
    show (idx (scatter_S5000x512_S256x1_S5000x256_0_1_1_1.siIdx (ix2 q k) (0 : Fin 1))).toInt + (0 : Int) = _
    rw [hi, Int.add_zero]
  rw [Routing.resultIdx?_ix2, h0, h1]
  exact and_congr_left' Nat.cast_inj

/-- A column set in which the word of column `k` is `col k`, the columns all different: the column `d = col k` of the result is column `k` of the updates. -/
theorem columns_hit (x0 : FVec F S5000x512 .f32) (idx : IVec S256x1 32) (upd : FVec F S5000x256 .f32) (col : Fin 256 → ℕ) (hc : ∀ k, idx (ix2 k 0) = BitVec.ofNat 32 (col k))
    (hlt : ∀ k, col k < 512) (hinj : ∀ k k', col k = col k' → k = k') (p : Fin 5000) (d : Fin 512) (k : Fin 256) (hk : col k = d.val) :
    Host.scatter scatter_S5000x512_S256x1_S5000x256_0_1_1_1 (fun _ b => b) x0 idx upd (ix2 p d) = upd (ix2 p k) := by
  have hw : ∀ k', (idx (ix2 k' 0)).toInt = (col k' : Int) := fun k' => by rw [hc, WordCmp.toInt_ofNat_of_lt (by have := hlt k'; omega)]
  refine Routing.scatter_set_hit _ _ _ _ _ _ (fun j hj => ?_) (ix2 p k) ((lands idx p k p d).2 ⟨rfl, by rw [hw, hk]⟩)
  obtain ⟨q, k', rfl⟩ : ∃ q k', j = ix2 q k' := ⟨_, _, eq_ix2 j⟩
  obtain ⟨hq, hd⟩ := (lands idx q k' p d).1 hj
  obtain rfl : q = p := Fin.ext hq
  rw [hw] at hd
  rw [hinj k' k (by omega)]

/-- The same column set at a column `d` that is no `col k`: the operand's entry. -/
theorem columns_miss (x0 : FVec F S5000x512 .f32) (idx : IVec S256x1 32) (upd : FVec F S5000x256 .f32) (col : Fin 256 → ℕ) (hc : ∀ k, idx (ix2 k 0) = BitVec.ofNat 32 (col k))
    (hlt : ∀ k, col k < 512) (p : Fin 5000) (d : Fin 512) (hk : ∀ k, col k ≠ d.val) :
    Host.scatter scatter_S5000x512_S256x1_S5000x256_0_1_1_1 (fun _ b => b) x0 idx upd (ix2 p d) = x0 (ix2 p d) := by
  refine Routing.scatter_set_miss _ _ _ _ _ fun j hj => ?_
  obtain ⟨q, k', rfl⟩ : ∃ q k', j = ix2 q k' := ⟨_, _, eq_ix2 j⟩
  have hd := ((lands idx q k' p d).1 hj).2
  rw [hc, WordCmp.toInt_ofNat_of_lt (by have := hlt k'; omega)] at hd
  exact hk k' (by omega)

/-- The reference's table, all 5000 rows: the sines in the even columns, the cosines in the odd ones. -/
theorem ref_table (p : Fin 5000) (d : Fin 512) : val_main_v76 (F := F) (ix2 p d) = entry p.val d.val := by
  have hd := d.isLt
  unfold val_main_v76 entry
  by_cases e : d.val % 2 = 0
  · rw [if_pos e, columns_miss _ _ _ (fun k => 2 * k.val + 1) odd_word (fun k => by have := k.isLt; omega) p d (fun k => by omega)]
    unfold val_main_v59
    rw [columns_hit _ _ _ (fun k => 2 * k.val) even_word (fun k => by have := k.isLt; omega) (fun k k' h => Fin.ext (by omega)) p d ⟨d.val / 2, by omega⟩ (by simp only; omega)]
    exact ref_sin p _
  · rw [if_neg e, columns_hit _ _ _ (fun k => 2 * k.val + 1) odd_word (fun k => by have := k.isLt; omega) (fun k k' h => Fin.ext (by omega)) p d ⟨d.val / 2, by omega⟩
      (by simp only; omega)]
    exact ref_cos p _

/-- The table as the reference adds it: the first 256 rows, the same for every row of the batch. -/
theorem ref_added (b : Fin 16) (p : Fin 256) (d : Fin 512) : val_main_v79 (F := F) (ix3 b p d) = entry p.val d.val := by
  have e : idx_main_v77 (idx_main_v78 (idx_main_v79 (ix3 b p d))) = ix2 (⟨p.val, by omega⟩ : Fin 5000) d := funext fun a => Fin.ext (by
    match a with
    | ⟨0, _⟩ => rfl
    | ⟨1, _⟩ => rfl)
  rw [val_main_v79_apply, val_main_v78_apply, val_main_v77_apply, e]
  exact ref_table _ d

end Cert.Table

end
-- ==== Proof.Host.lean ====
/- What the kernel program's host operations hand to its kernel: the samples and the weights, transposed, and the table of sines and cosines. -/
module

public import proofs.«01_k».proof.Proof.Gen.KernelIdeal.Frame
public import proofs.«01_k».proof.Proof.RefTable

@[expose] public section

noncomputable section

namespace Cert.HostPart

open Cert.KernelIdeal Cert.KernelIdeal.Gen
open Idealize.ShloMosaic Idealize.ShloMosaic.ValueIdx Idealize.ShloMosaic.TcCoe Idealize.SL.Sem Idealize.ShloMosaic.StableHlo

variable {F : FTy → Type} [FloatOps F]

/-! ## The samples and the weights -/

/-- The samples as the kernel reads them: one segment per column. -/
def samples (x : FVec F S16x4096x1 .f32) : FVec F S16x4096 .f32 :=
  transpose S16x4096 [1, 0] (shapeCast S4096x16 (shapeCast S16x4096 x shapeCasts_S16x4096x1_S16x4096) shapeCasts_S16x4096_S4096x16) transposes_S4096x16_S16x4096_1_0

/-- Row `l` of column `256 * b + p` of the samples is sample `16 * p + l` of row `b`. -/
theorem samples_read (x : FVec F S16x4096x1 .f32) (l : Fin 16) (g : Fin 4096) :
    samples x (ix2 l g) = x (ix3 ⟨g.val / 256, by omega⟩ ⟨16 * (g.val % 256) + l.val, by omega⟩ 0) := by
  have hl := l.isLt
  have hg := g.isLt
  unfold samples
  rw [transpose_apply _ _ _ _ (ix2 g l) (fun a => match a with
      | ⟨0, _⟩ => rfl
      | ⟨1, _⟩ => rfl),
    shapeCast_apply _ _ _ (ix2 (⟨g.val / 256, by omega⟩ : Fin 16) (⟨16 * (g.val % 256) + l.val, by omega⟩ : Fin 4096)) (by
      rw [Shape.rowMajor_val_two, Shape.rowMajor_val_two]
      show g.val / 256 * 4096 + (16 * (g.val % 256) + l.val) = g.val * 16 + l.val
      omega),
    shapeCast_apply _ _ _ (ix3 (⟨g.val / 256, by omega⟩ : Fin 16) (⟨16 * (g.val % 256) + l.val, by omega⟩ : Fin 4096) (0 : Fin 1)) (by
      rw [Shape.rowMajor_val_three, Shape.rowMajor_val_two]
      show (g.val / 256 * 4096 + (16 * (g.val % 256) + l.val)) * 1 + 0 = g.val / 256 * 4096 + (16 * (g.val % 256) + l.val)
      omega)]

/-- The weights as the kernel reads them. -/
def weights (w : FVec F S512x16 .f32) : FVec F S16x512 .f32 := transpose S16x512 [1, 0] w transposes_S512x16_S16x512_1_0

/-- The transposed weights at an index. -/
theorem weights_read (w : FVec F S512x16 .f32) (l : Fin 16) (d : Fin 512) : weights w (ix2 l d) = w (ix2 d l) :=
  transpose_apply _ _ _ _ (ix2 d l) (fun a => match a with
    | ⟨0, _⟩ => rfl
    | ⟨1, _⟩ => rfl)

/-! ## The table -/

/-- The frequencies, as the kernel program's host operations compute them. -/
def rates : FVec F S256 .f32 :=
  Host.exp (mulf (addf (broadcastInDim S256 ![] bcast_S_S256 (constant S_ .f32 0x00000000#32))
    (mulf (broadcastInDim S256 ![] bcast_S_S256 (constant S_ .f32 0x40000000#32)) (sitofp .f32 (iotaInDim S256 32 0)))) (broadcastInDim S256 ![] bcast_S_S256 (constant S_ .f32 0xBC935D8E#32)))

/-- The angles: row number times frequency. -/
def angles : FVec F S256x256 .f32 :=
  mulf (broadcastInDim S256x256 ![0, 1] bcast_S256x1_S256x256_0_1 (broadcastInDim S256x1 ![0] bcast_S256_S256x1_0 (sitofp .f32 (iotaInDim S256 32 0))))
    (broadcastInDim S256x256 ![0, 1] bcast_S1x256_S256x256_0_1 (broadcastInDim S1x256 ![1] bcast_S256_S1x256_1 rates))

/-- The sines and the cosines side by side on a last axis of two. -/
def pairs : FVec F S256x256x2 .f32 :=
  concatenate S256x256x2 2 [⟨S256x256x1, broadcastInDim S256x256x1 ![0, 1] bcast_S256x256_S256x256x1_0_1 (Host.sin angles)⟩,
    ⟨S256x256x1, broadcastInDim S256x256x1 ![0, 1] bcast_S256x256_S256x256x1_0_1 (Host.cos angles)⟩] concatenates_S256x256x1_S256x256x1_S256x256x2_d2

/-- The table in bf16, as the kernel reads it. -/
def table : FVec F S256x512 .bf16 := truncf .bf16 (shapeCast S256x512 (pairs (F := F)) shapeCasts_S256x256x2_S256x512) bitsLt_bf16_f32

/-- Frequency `k` is the one of the shared table. -/
theorem rates_read (k : Fin 256) : rates (F := F) (ix1 k) = Table.rate k.val := rfl

/-- Angle `(p, k)` is the one of the shared table. -/
theorem angles_read (p k : Fin 256) : angles (F := F) (ix2 p k) = Table.angle p.val k.val := by
  unfold angles
  show FloatOps.mulf (_ : F .f32) _ = _
  rw [broadcastInDim_apply _ bcast_S256x1_S256x256_0_1 _ _ (ix2 p (0 : Fin 1)) (fun a => match a with
      | ⟨0, _⟩ => rfl
      | ⟨1, _⟩ => rfl),
    broadcastInDim_apply _ bcast_S256_S256x1_0 _ _ (ix1 p) (fun a => match a with
      | ⟨0, _⟩ => rfl),
    broadcastInDim_apply _ bcast_S1x256_S256x256_0_1 _ _ (ix2 (0 : Fin 1) k) (fun a => match a with
      | ⟨0, _⟩ => rfl
      | ⟨1, _⟩ => rfl),
    broadcastInDim_apply _ bcast_S256_S1x256_1 _ _ (ix1 k) (fun a => match a with
      | ⟨0, _⟩ => rfl), rates_read]
  rfl

/-- A function of the angles on a last axis of one, at an index. -/
theorem last_axis_read (y : FVec F S256x256 .f32) (p k : Fin 256) :
    broadcastInDim S256x256x1 ![0, 1] bcast_S256x256_S256x256x1_0_1 y (ix3 p k 0) = y (ix2 p k) :=
  broadcastInDim_apply _ bcast_S256x256_S256x256x1_0_1 _ _ (ix2 p k) (fun a => match a with
    | ⟨0, _⟩ => rfl
    | ⟨1, _⟩ => rfl)

/-- Entry `d` of row `p`, the pairs laid out one after the other: the shared table's. -/
theorem pairs_read (p : Fin 256) (d : Fin 512) : pairs (F := F) (ix3 p ⟨d.val / 2, by omega⟩ ⟨d.val % 2, by omega⟩) = Table.entry p.val d.val := by
  unfold pairs Table.entry
  by_cases h : d.val % 2 = 0
  · rw [if_pos h, concatenate_pair_apply_left (t := S256x256x2) (s₁ := S256x256x1) (s₂ := S256x256x1) _ _ _ _ (ix3 p ⟨d.val / 2, by omega⟩ ⟨d.val % 2, by omega⟩) rfl (ix3 p ⟨d.val / 2, by omega⟩ 0) (fun a => match a with
        | ⟨0, _⟩ => rfl
        | ⟨1, _⟩ => rfl
        | ⟨2, _⟩ => h.symm), last_axis_read, ← angles_read p ⟨d.val / 2, by omega⟩]
    rfl
  · rw [if_neg h, concatenate_pair_apply_right (t := S256x256x2) (s₁ := S256x256x1) (s₂ := S256x256x1) _ _ _ _ (ix3 p ⟨d.val / 2, by omega⟩ ⟨d.val % 2, by omega⟩) rfl rfl (ix3 p ⟨d.val / 2, by omega⟩ 0) (fun a ha => match a with
        | ⟨0, _⟩ => rfl
        | ⟨1, _⟩ => rfl
        | ⟨2, _⟩ => (ha rfl).elim) (by show 1 + 0 = d.val % 2; omega), last_axis_read, ← angles_read p ⟨d.val / 2, by omega⟩]
    rfl

/-- Over the extended reals the bf16 table holds the shared table's entries. -/
theorem table_read (p : Fin 256) (d : Fin 512) : table (F := Ideal) (ix2 p d) = Table.entry (F := Ideal) p.val d.val := by
  have hd := d.isLt
  unfold table
  show shapeCast S256x512 (pairs (F := Ideal)) shapeCasts_S256x256x2_S256x512 (ix2 p d) = _
  rw [shapeCast_apply _ _ _ (ix3 p (⟨d.val / 2, by omega⟩ : Fin 256) (⟨d.val % 2, by omega⟩ : Fin 2)) (by
      rw [Shape.rowMajor_val_three, Shape.rowMajor_val_two]
      show (p.val * 256 + d.val / 2) * 2 + d.val % 2 = p.val * 512 + d.val
      omega)]
  exact pairs_read p d

/-! ## What the kernel's operands hold when it is entered -/

variable (m : (ℓ : Loc nD τ sig) → Buf (Elt F) ℓ) (c : Dev nD)

/-- The first operand: the samples of the first argument. -/
theorem operand0 : V m c main_v2 = samples (m ((c.tc : Thread nD τ).loc main_arg0)) := by
  show after hostOps0 _ _ = _
  after_results_simp
  rfl

/-- The second operand: the weights of the third argument. -/
theorem operand1 : V m c main_v3 = weights (m ((c.tc : Thread nD τ).loc main_arg2)) := by
  show after hostOps0 _ _ = _
  after_results_simp
  rfl

/-- The third operand: the table. -/
theorem operand2 : V m c main_v28 = table (F := F) := by
  show after hostOps0 _ _ = _
  after_results_simp
  rfl

end Cert.HostPart

end
-- ==== Proof.Block.lean ====
/- What one grid point computes, read at an index over the extended reals. -/
module

public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

noncomputable section

namespace Cert.Block

open Cert.KernelIdeal Cert.KernelIdeal.Gen
open Idealize.ShloMosaic Idealize.ShloMosaic.ValueIdx

/-- The product of one grid point, both operands contracted along their first axis, into a zero accumulator. -/
theorem product (x : FVec Ideal S16x2048 .f32) (w : FVec Ideal S16x512 .f32) (r : Fin 2048) (d : Fin 512) :
    matmul dot_S16x2048_S16x512_S2048x512_0_0_1_1_n_n none x w (constant S2048x512 .f32 0x00000000#32) (ix2 r d) = ∑ l : Fin 16, x (ix2 l r) * w (ix2 l d) := by
  simp only [matmul]
  rw [Ideal.matmul_constant_zero_apply, ← Equiv.sum_comp (contrEquiv1 dot_S16x2048_S16x512_S2048x512_0_0_1_1_n_n 16 rfl rfl).symm]
  refine Finset.sum_congr rfl fun l _ => ?_
  have hl := contrEquiv1_symm_val dot_S16x2048_S16x512_S2048x512_0_0_1_1_n_n 16 rfl rfl l
  have el : dot_S16x2048_S16x512_S2048x512_0_0_1_1_n_n.lhsIdx (ix2 r d) ((contrEquiv1 dot_S16x2048_S16x512_S2048x512_0_0_1_1_n_n 16 rfl rfl).symm l) = ix2 l r := funext fun a => Fin.ext (by
    match a with
    | ⟨0, _⟩ => exact (DotDims.lhsIdx_val_of_single _ rfl _ _).trans hl
    | ⟨1, _⟩ => rfl)
  have er : dot_S16x2048_S16x512_S2048x512_0_0_1_1_n_n.rhsIdx (ix2 r d) ((contrEquiv1 dot_S16x2048_S16x512_S2048x512_0_0_1_1_n_n 16 rfl rfl).symm l) = ix2 l d := funext fun a => Fin.ext (by
    match a with
    | ⟨0, _⟩ => exact (DotDims.rhsIdx_val_of_single _ rfl _ _).trans hl
    | ⟨1, _⟩ => rfl)
  rw [el, er]

/-- Row `r`, column `d` of what one grid point stores: the product there plus the table's entry in row `r % 256`. -/
theorem stored (x : FVec Ideal S16x2048 .f32) (w : FVec Ideal S16x512 .f32) (pe : FVec Ideal S256x512 .bf16) (r : Fin 2048) (d : Fin 512) :
    k0_pay1 x w pe (ix2 r d) = (∑ l : Fin 16, x (ix2 l r) * w (ix2 l d)) + pe (ix2 ⟨r.val % 256, by omega⟩ d) := by
  have hr := r.isLt
  unfold k0_pay1
  rw [shapeCast_apply _ _ (ix2 r d) (ix3 (⟨r.val / 256, by omega⟩ : Fin 8) (⟨r.val % 256, by omega⟩ : Fin 256) d) (by
      rw [Shape.rowMajor_val_two, Shape.rowMajor_val_three]
      show (r.val / 256 * 256 + r.val % 256) * 512 + d.val = r.val * 512 + d.val
      omega), addf_apply]
  congr 1
  · rw [shapeCast_apply _ _ _ (ix2 r d) (by
      rw [Shape.rowMajor_val_two, Shape.rowMajor_val_three]
      show r.val * 512 + d.val = (r.val / 256 * 256 + r.val % 256) * 512 + d.val
      omega), shapeCast_self, shapeCast_self]
    exact product x w r d
  · rw [broadcastTo_apply _ _ _ (ix3 (0 : Fin 1) (⟨r.val % 256, by omega⟩ : Fin 256) d) (fun a => match a with
        | ⟨0, _⟩ => rfl
        | ⟨1, _⟩ => rfl
        | ⟨2, _⟩ => rfl), shapeCast_apply _ _ _ (ix2 (⟨r.val % 256, by omega⟩ : Fin 256) d) (by
      rw [Shape.rowMajor_val_two, Shape.rowMajor_val_three]
      show r.val % 256 * 512 + d.val = (0 * 256 + r.val % 256) * 512 + d.val
      omega), shapeCast_self]
    rfl

end Cert.Block

end
-- ==== Proof.KernelValue.lean ====
/- The idealized kernel program's two results, as functions of its arguments, on every final state. -/
module

public import Idealize.ShloMosaic.Lib.Pipeline.ValueKit
public import proofs.«01_k».proof.Proof.Host
public import proofs.«01_k».proof.Proof.Block

@[expose] public section

noncomputable section

namespace Cert.KernelValue

open Cert.KernelIdeal Cert.KernelIdeal.Gen Cert.HostPart
open Idealize.ShloMosaic hiding ix1 ix2 ix3 eq_ix1 eq_ix2 eq_ix3
open Idealize.ShloMosaic.ValueIdx Idealize.ShloMosaic.TcCoe Idealize.SL.Sem Idealize.ShloMosaic.StableHlo
open Idealize.ShloMosaic.Pipeline

/-- What the kernel leaves in its output: row `g` is segment `g` times the weights, plus row `g % 256` of the table. -/
def rows (x : FVec Ideal S16x4096 .f32) (w : FVec Ideal S16x512 .f32) (pe : FVec Ideal S256x512 .bf16) : FVec Ideal S4096x512 .f32 :=
  fun i => (∑ l : Fin 16, x (ix2 l (i 0)) * w (ix2 l (i 1))) + pe (ix2 ⟨(i 0).val % 256, Nat.mod_lt _ (by decide)⟩ (i 1))

/-! ## The blocks of the four windows -/

/-- The samples' block at a grid point: all 16 rows, the point's columns. -/
theorem index_samples : ∀ t : Fin cfg0.N, win0_0.index t = ![0, (grid0.coords t 0).val] := (by decide +kernel : ∀ t : Fin grid0.N, _)

/-- The weights' block is the whole array at every point. -/
theorem index_weights : ∀ t : Fin cfg0.N, win0_1.index t = ![0, 0] := (by decide +kernel : ∀ t : Fin grid0.N, _)

/-- The table's block is the whole array at every point. -/
theorem index_table : ∀ t : Fin cfg0.N, win0_2.index t = ![0, 0] := (by decide +kernel : ∀ t : Fin grid0.N, _)

/-- The output's block at a grid point: the point's rows, all columns. -/
theorem index_rows : ∀ t : Fin cfg0.N, win0_3.index t = ![(grid0.coords t 0).val, 0] := (by decide +kernel : ∀ t : Fin grid0.N, _)

variable (m : (ℓ : Loc nD τ sig) → Buf (Elt Ideal) ℓ) (c : Dev nD)

/-- The output array after the last grid point. -/
theorem output : (dats m 0 c).arrAt 3 cfg0.N = rows (V m c main_v2) (V m c main_v3) (V m c main_v28) := by
  refine (dats m 0 c).arrAt_eq_of_covers 3 _ (by decide +kernel) fun t _ y => ?_
  blk_simp
  rw [after0_3]
  frame_out
  obtain ⟨r, d, rfl⟩ : ∃ (r : Fin 2048) (d : Fin 512), y = ix2 r d := ⟨y 0, y 1, eq_ix2 y⟩
  rw [Block.stored]
  have hg : (grid0.coords t 0).val < 2 := (grid0.coords t 0).isLt
  have e : ((cfg0.win 3).blk t).view.emb (ix2 r d) = ix2 (⟨(grid0.coords t 0).val * 2048 + r.val, by omega⟩ : Fin 4096) d := by
    blk_ext [index_rows] <;> rfl
  refine Eq.trans ?_ (congrArg (rows _ _ _) e).symm
  refine congrArg₂ (fun u v : EReal => u + v) (Finset.sum_congr rfl fun l _ => congrArg₂ (fun u v : EReal => u * v) ?_ ?_) ?_
  · refine congrArg (V m c main_v2) (a₁ := ((cfg0.win 0).blk t).view.emb (ix2 l r)) (a₂ := ix2 l (⟨(grid0.coords t 0).val * 2048 + r.val, by omega⟩ : Fin 4096)) ?_
    blk_ext [index_samples] <;> rfl
  · refine congrArg (V m c main_v3) (a₁ := ((cfg0.win 1).blk t).view.emb (ix2 l d)) (a₂ := ix2 l d) ?_
    blk_ext [index_weights] <;> rfl
  · refine congrArg (V m c main_v28) (a₁ := ((cfg0.win 2).blk t).view.emb (ix2 _ d))
      (a₂ := ix2 (⟨((grid0.coords t 0).val * 2048 + r.val) % 256, by omega⟩ : Fin 256) d) ?_
    have h : r.val % 256 = ((grid0.coords t 0).val * 2048 + r.val) % 256 := by omega
    blk_ext [index_table] <;> first | exact h | rfl

/-- The program's first result: the output's rows, 256 to a batch entry. -/
theorem result0 : afterTail₀ cfgs (dats m) 0 (V0 m) [hostOps1] c main_v30
    = shapeCast S16x256x512 (rows (V m c main_v2) (V m c main_v3) (V m c main_v28)) shapeCasts_S4096x512_S16x256x512 := by
  rw [← output]
  show after hostOps1 _ _ = _
  after_results_simp
  exact congrArg (fun v => shapeCast S16x256x512 v shapeCasts_S4096x512_S16x256x512) (withArrays_arr spec0 launch0.win.arr_inj c (V0 m c) _ 3)

/-- The program's second result: all false. -/
theorem result1 : afterTail₀ cfgs (dats m) 0 (V0 m) [hostOps1] c main_v31 = broadcastInDim S4096x16 ![] bcast_S_S4096x16 (constantI S_ 1 0#1) := by
  show after hostOps1 _ _ = _
  after_results_simp

/-- The patch embedding: every segment of 16 samples times the weights, plus the table's entry. -/
def embedded (x : FVec Ideal S16x4096x1 .f32) (w : FVec Ideal S512x16 .f32) : FVec Ideal S16x256x512 .f32 :=
  fun i => (∑ l : Fin 16, x (ix3 (i 0) ⟨16 * (i 1).val + l.val, by have := (i 1).isLt; have := l.isLt; change (i 1).val < 256 at *; omega⟩ 0) * w (ix2 (i 2) l))
    + Table.entry (F := Ideal) (i 1).val (i 2).val

/-- The first result is the patch embedding of the arguments. -/
theorem result0_eq (x : FVec Ideal S16x4096x1 .f32) (w : FVec Ideal S512x16 .f32) :
    shapeCast S16x256x512 (rows (samples x) (weights w) table) shapeCasts_S4096x512_S16x256x512 = embedded x w := by
  funext i
  obtain ⟨b, p, d, rfl⟩ : ∃ (b : Fin 16) (p : Fin 256) (d : Fin 512), i = ix3 b p d := ⟨i 0, i 1, i 2, eq_ix3 i⟩
  have hb := b.isLt
  have hp := p.isLt
  rw [shapeCast_apply _ _ _ (ix2 (⟨256 * b.val + p.val, by omega⟩ : Fin 4096) d) (by
    rw [Shape.rowMajor_val_two, Shape.rowMajor_val_three]
    show (256 * b.val + p.val) * 512 + d.val = (b.val * 256 + p.val) * 512 + d.val
    omega)]
  have hq : (256 * b.val + p.val) / 256 = b.val := by omega
  have hr : (256 * b.val + p.val) % 256 = p.val := by omega
  show (∑ l : Fin 16, samples x (ix2 l (⟨256 * b.val + p.val, by omega⟩ : Fin 4096)) * weights w (ix2 l d))
      + table (F := Ideal) (ix2 (⟨(256 * b.val + p.val) % 256, by omega⟩ : Fin 256) d)
    = (∑ l : Fin 16, x (ix3 b ⟨16 * p.val + l.val, by omega⟩ 0) * w (ix2 d l)) + Table.entry (F := Ideal) p.val d.val
  rw [table_read]
  simp only [samples_read, weights_read, hq, hr]

/-- Every fair execution of the idealized kernel program ends with the patch embedding and the all-false mask in its
    results and its arguments unchanged. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v30) = embedded (m ((c.tc : Thread nD τ).loc main_arg0)) (m ((c.tc : Thread nD τ).loc main_arg2))
    ∧ r.2.mem ((c.tc : Thread nD τ).loc main_v31) = broadcastInDim S4096x16 ![] bcast_S_S4096x16 (constantI S_ 1 0#1)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine θ_run_mono (run_main m g) fun r h c => ⟨?_, ?_, ?_, ?_, ?_⟩
  · rw [(h c).2 main_v30 (Pipeline.mem_restRefs_of main_v30 (by decide) (by decide)), result0, operand0, operand1, operand2, result0_eq]
  · rw [(h c).2 main_v31 (Pipeline.mem_restRefs_of main_v31 (by decide) (by decide)), result1]
  · rw [(h c).2 main_arg0 (Pipeline.mem_restRefs_of main_arg0 (by decide) (by decide)), W_main_arg0]
  · rw [(h c).2 main_arg1 (Pipeline.mem_restRefs_of main_arg1 (by decide) (by decide)), W_main_arg1]
  · rw [(h c).2 main_arg2 (Pipeline.mem_restRefs_of main_arg2 (by decide) (by decide)), W_main_arg2]

end Cert.KernelValue

end
-- ==== Proof.RefValue.lean ====
/- The reference program's first result, index by index, and what the precondition says of the segment numbers. -/
module

public import proofs.«01_k».proof.Pre_contiguous_segments
public import Idealize.ShloMosaic.Lib.Routing.Words
public import proofs.«01_k».proof.Proof.Patches
public import proofs.«01_k».proof.Proof.RefTable
public import proofs.«01_k».proof.Proof.Gen.ReferenceIdeal.Read

@[expose] public section

noncomputable section

namespace Cert.RefValue

open Cert.ReferenceIdeal Cert.ReferenceIdeal.Read
open Idealize.ShloMosaic
open Idealize.ShloMosaic.ValueIdx

/-- The precondition read at an index: the segment number of sample `n` is `n / 16`. -/
theorem contiguous_of_pre [Cert.Pre_contiguous_segments.Facts] {x : FVec Ideal S16x4096x1 .f32} {ids : IVec S16x4096 32} {w : FVec Ideal S512x16 .f32}
    (h : Cert.Pre_contiguous_segments.fn (F := Ideal) x ids w = fun _ => 1#1) : Patches.Contiguous ids := by
  intro b n
  have hn := n.isLt
  have e : IntOp.cmpi .eq (ids (ix2 b n)) (IntOp.divsi .host (BitVec.ofNat 32 n.val) (BitVec.ofNat 32 16)) = 1#1 := congrFun h (ix2 b n)
  rw [Routing.divsi_word .host (by omega) (by decide) (by decide), WordCmp.cmpi_eq_eq] at e
  exact (WordCmp.ofBool_decide_eq_one_iff _).1 e

/-- With segments of 16 consecutive samples, the reference's first result at batch entry `b`, segment `p` and
    embedding coordinate `d`: the segment's samples times row `d` of the weights, plus the table's entry. -/
theorem result_read (x : FVec Ideal S16x4096x1 .f32) (ids : IVec S16x4096 32) (w : FVec Ideal S512x16 .f32) (h : Patches.Contiguous ids)
    (b : Fin 16) (p : Fin 256) (d : Fin 512) :
    val_main_v80 (F := Ideal) x ids w (ix3 b p d)
      = (∑ l : Fin 16, x (ix3 b ⟨16 * p.val + l.val, by omega⟩ 0) * w (ix2 d l)) + Table.entry (F := Ideal) p.val d.val := by
  have hl : ∀ k : Fin 16, lidx_main_v31 (ix3 b p d) k = ix3 b p k := fun k => funext fun a => match a with
    | ⟨0, _⟩ => rfl
    | ⟨1, _⟩ => rfl
    | ⟨2, _⟩ => rfl
  have hr : ∀ k : Fin 16, ridx_main_v31 (ix3 b p d) k = ix2 d k := fun k => funext fun a => match a with
    | ⟨0, _⟩ => rfl
    | ⟨1, _⟩ => rfl
  rw [val_main_v80_apply, Table.ref_added, val_main_v31_apply]
  simp only [hl, hr, Patches.patches_read x ids h]
  rfl

end Cert.RefValue

end
-- ==== Proof.lean ====
/- The certificate's theorem `Cert.Proof.claim`: the kernel program, its idealized reading and the reference run, leave their
   arguments unchanged and every semaphore counter at zero, and the kernel and the reference agree in both results. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.RefValue
public import Idealize.ShloMosaic.Lib.Quiescent

@[expose] public section

noncomputable section

namespace Cert.Proof

open Idealize.ShloMosaic hiding ix1 ix2 ix3 eq_ix1 eq_ix2 eq_ix3
open Idealize.ShloMosaic.ValueIdx Idealize.ShloMosaic.TcCoe Idealize.SL.Sem

/-- The side condition of the precondition's one broadcast. -/
theorem pre_facts : Cert.Pre_contiguous_segments.Facts := ⟨by decide⟩

/-- The reference runs, leaves its arguments unchanged and every semaphore counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  θ_run_mono (Cert.ReferenceIdeal.Value.run m g) fun r h => ⟨fun c => (h c).2.2, sem_eq_zero_of_no_sems (by decide) r.2⟩

/-- The patch embedding of the kernel's arguments is the reference's first result at arguments that agree with them. -/
theorem same_embedding {x : FVec Ideal Cert.ReferenceIdeal.S16x4096x1 .f32} {ids : IVec Cert.ReferenceIdeal.S16x4096 32}
    {w : FVec Ideal Cert.ReferenceIdeal.S512x16 .f32} (h : Patches.Contiguous ids) :
    Cert.ReferenceIdeal.Read.val_main_v80 (F := Ideal) x ids w = KernelValue.embedded x w := by
  funext i
  obtain ⟨b, p, d, rfl⟩ : ∃ (b : Fin 16) (p : Fin 256) (d : Fin 512), i = ix3 b p d := ⟨i 0, i 1, i 2, eq_ix3 i⟩
  exact RefValue.result_read x ids w h b p d

/-- Where every segment is 16 consecutive samples, the idealized kernel program and the reference end with the same
    patch embedding and the same mask. -/
theorem same_results : Cert.algebraic_KernelIdeal_ReferenceIdeal_pre_contiguous_segments (hKernelIdeal := Cert.KernelIdeal.Gen.facts)
    (hReferenceIdeal := Cert.ReferenceIdeal.Gen.facts) (hPre_contiguous_segments := pre_facts) := by
  intro m g m' g' hpre hm
  have := pre_facts
  refine ⟨_, _, KernelValue.run m g, θ_run_mono (Cert.ReferenceIdeal.Value.run m' g') fun r h c => ⟨?_, (h c).2.1, (h c).2.2⟩⟩
  have hids := RefValue.contiguous_of_pre (hpre c)
  obtain ⟨h0, h1, h2⟩ := hm c
  rw [(h c).1, Cert.ReferenceIdeal.Read.val_main_v80_eq, h0, h1, h2]
  exact same_embedding hids

/-- The certificate: the three programs run, leave their arguments unchanged and every counter at zero; the idealized
    kernel is the kernel's; and it agrees with the reference in both results. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    fun m g _ => reference_frame m g, fun m g _ => reference_frame m g, trivial, same_results⟩

end Cert.Proof

end
